-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonzero [hPre_scales_nonzero : Cert.Pre_scales_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonzero [hPre_scales_nonzero : Cert.Pre_scales_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_nonzero [hKernelIdeal : Cert.KernelIdeal.Facts] [hPre_scales_nonzero : Cert.Pre_scales_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_nonzero [hReferenceIdeal : Cert.ReferenceIdeal.Facts] [hPre_scales_nonzero : Cert.Pre_scales_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_nonzero [hKernelIdeal : Cert.KernelIdeal.Facts] [hReferenceIdeal : Cert.ReferenceIdeal.Facts] [hPre_scales_nonzero : Cert.Pre_scales_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_nonzero : Cert.Pre_scales_nonzero.Facts),
    quiescent_Kernel (hKernel := hKernel)
    ∧ quiescent_KernelIdeal (hKernelIdeal := hKernelIdeal)
    ∧ quiescent_KernelIdeal_pre_scales_nonzero (hKernelIdeal := hKernelIdeal) (hPre_scales_nonzero := hPre_scales_nonzero)
    ∧ quiescent_ReferenceIdeal (hReferenceIdeal := hReferenceIdeal)
    ∧ quiescent_ReferenceIdeal_pre_scales_nonzero (hReferenceIdeal := hReferenceIdeal) (hPre_scales_nonzero := hPre_scales_nonzero)
    ∧ preserves_Kernel_KernelIdeal
    ∧ algebraic_KernelIdeal_ReferenceIdeal_pre_scales_nonzero (hKernelIdeal := hKernelIdeal) (hReferenceIdeal := hReferenceIdeal) (hPre_scales_nonzero := hPre_scales_nonzero)
-- ==== Pre_scales_nonzero.lean ====
abbrev S3x640x1536 : Shape := ⟨3, ![3, 640, 1536]⟩
abbrev S2x8960x768 : Shape := ⟨3, ![2, 8960, 768]⟩
abbrev S2x8960x48 : Shape := ⟨3, ![2, 8960, 48]⟩
abbrev S_ : Shape := ⟨0, ![]⟩

class Facts : Prop where
  natLt_8_32 : 8 < 32
  bcast_S_S2x8960x48 : S_.BroadcastsInDim S2x8960x48 (![] : Fin 0 → Fin S2x8960x48.rank)

variable [Facts]

def fn {F : FTy → Type} [FloatOps F] (main_arg0 : FVec F S3x640x1536 .bf16) (main_arg1 : IVec S2x8960x768 8) (main_arg2 : IVec S2x8960x48 8) : IVec S2x8960x48 1 :=
  let main_v0 : IVec S2x8960x48 32 := (extui 32 · natLt_8_32) main_arg2
  let main_c : IVec S_ 32 := constantI S_ 32 0#32
  let main_v1 : IVec S2x8960x48 32 := broadcastInDim S2x8960x48 ![] bcast_S_S2x8960x48 main_c
  let main_v2 : IVec S2x8960x48 1 := cmpi .sgt main_v0 main_v1
  main_v2
-- ==== Kernel.lean ====
abbrev S3x640x1536 : Shape := ⟨3, ![3, 640, 1536]⟩
abbrev S2x8960x768 : Shape := ⟨3, ![2, 8960, 768]⟩
abbrev S2x8960x48 : Shape := ⟨3, ![2, 8960, 48]⟩
abbrev S1920x768x2 : Shape := ⟨3, ![1920, 768, 2]⟩
abbrev S1920x2x768 : Shape := ⟨3, ![1920, 2, 768]⟩
abbrev S1920x1536 : Shape := ⟨2, ![1920, 1536]⟩
abbrev S1920x8960 : Shape := ⟨2, ![1920, 8960]⟩
abbrev S2x256x768 : Shape := ⟨3, ![2, 256, 768]⟩
abbrev S2x256x48 : Shape := ⟨3, ![2, 256, 48]⟩
abbrev S1920x256 : Shape := ⟨2, ![1920, 256]⟩
abbrev S2x256x1536 : Shape := ⟨3, ![2, 256, 1536]⟩
abbrev S1x256x48 : Shape := ⟨3, ![1, 256, 48]⟩
abbrev S256x48 : Shape := ⟨2, ![256, 48]⟩
abbrev S256x80 : Shape := ⟨2, ![256, 80]⟩
abbrev S256x128 : Shape := ⟨2, ![256, 128]⟩
abbrev S1x256x128 : Shape := ⟨3, ![1, 256, 128]⟩
abbrev S128x128 : Shape := ⟨2, ![128, 128]⟩
abbrev S128x128x1 : Shape := ⟨3, ![128, 128, 1]⟩
abbrev S64x128 : Shape := ⟨2, ![64, 128]⟩
abbrev S480x1536 : Shape := ⟨2, ![480, 1536]⟩
abbrev S1x256x1536 : Shape := ⟨3, ![1, 256, 1536]⟩
abbrev S256x1536 : Shape := ⟨2, ![256, 1536]⟩
abbrev S480x256 : Shape := ⟨2, ![480, 256]⟩

abbrev nBuf : Space → Nat
  | .hbm => 7
  | .vmem => 8
  | .smem => 0
  | _ => 0

abbrev bufTy : (tb : Table) → Fin (tcTables nBuf tb) → BufTy
  | .hbm, ⟨0, _⟩ => ⟨S3x640x1536, .bf16⟩
  | .hbm, ⟨1, _⟩ => ⟨S2x8960x768, .i8⟩
  | .hbm, ⟨2, _⟩ => ⟨S2x8960x48, .i8⟩
  | .hbm, ⟨3, _⟩ => ⟨S1920x768x2, .bf16⟩
  | .hbm, ⟨4, _⟩ => ⟨S1920x2x768, .bf16⟩
  | .hbm, ⟨5, _⟩ => ⟨S1920x1536, .bf16⟩
  | .hbm, ⟨6, _⟩ => ⟨S1920x8960, .bf16⟩
  | .local _ .vmem, ⟨0, _⟩ => ⟨S1920x1536, .bf16⟩
  | .local _ .vmem, ⟨1, _⟩ => ⟨S2x256x768, .i8⟩
  | .local _ .vmem, ⟨2, _⟩ => ⟨S2x256x768, .i8⟩
  | .local _ .vmem, ⟨3, _⟩ => ⟨S2x256x48, .i8⟩
  | .local _ .vmem, ⟨4, _⟩ => ⟨S2x256x48, .i8⟩
  | .local _ .vmem, ⟨5, _⟩ => ⟨S1920x256, .bf16⟩
  | .local _ .vmem, ⟨6, _⟩ => ⟨S1920x256, .bf16⟩
  | .local _ .vmem, ⟨7, _⟩ => ⟨S2x256x1536, .bf16⟩
  | _, _ => ⟨S3x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x256x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x48 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S3x640x1536 : Shape := ⟨3, ![3, 640, 1536]⟩
abbrev S2x8960x768 : Shape := ⟨3, ![2, 8960, 768]⟩
abbrev S2x8960x48 : Shape := ⟨3, ![2, 8960, 48]⟩
abbrev S_ : Shape := ⟨0, ![]⟩
abbrev S2x8960x1x768 : Shape := ⟨4, ![2, 8960, 1, 768]⟩
abbrev S2x8960x2x768 : Shape := ⟨4, ![2, 8960, 2, 768]⟩
abbrev S2x8960x2x48x16 : Shape := ⟨5, ![2, 8960, 2, 48, 16]⟩
abbrev S2x8960x1x48x1 : Shape := ⟨5, ![2, 8960, 1, 48, 1]⟩
abbrev S3x640x768x2 : Shape := ⟨4, ![3, 640, 768, 2]⟩
abbrev S3x640x2x768 : Shape := ⟨4, ![3, 640, 2, 768]⟩
abbrev S1x8960x2x768 : Shape := ⟨4, ![1, 8960, 2, 768]⟩
abbrev S8960x2x768 : Shape := ⟨3, ![8960, 2, 768]⟩
abbrev S3x640x8960 : Shape := ⟨3, ![3, 640, 8960]⟩
abbrev S1920x8960 : Shape := ⟨2, ![1920, 8960]⟩

abbrev nBuf : Space → Nat
  | .hbm => 106
  | .vmem => 0
  | .smem => 0
  | _ => 0

abbrev bufTy : (tb : Table) → Fin (tcTables nBuf tb) → BufTy
  | .hbm, ⟨0, _⟩ => ⟨S3x640x1536, .bf16⟩
  | .hbm, ⟨1, _⟩ => ⟨S2x8960x768, .i8⟩
  | .hbm, ⟨2, _⟩ => ⟨S2x8960x48, .i8⟩
  | .hbm, ⟨3, _⟩ => ⟨S2x8960x48, .i32⟩
  | .hbm, ⟨4, _⟩ => ⟨S_, .i32⟩
  | .hbm, ⟨5, _⟩ => ⟨S2x8960x48, .i32⟩
  | .hbm, ⟨6, _⟩ => ⟨S2x8960x48, .i32⟩
  | .hbm, ⟨7, _⟩ => ⟨S_, .i32⟩
  | .hbm, ⟨8, _⟩ => ⟨S2x8960x48, .i32⟩
  | .hbm, ⟨9, _⟩ => ⟨S2x8960x48, .i1⟩
  | .hbm, ⟨10, _⟩ => ⟨S_, .i32⟩
  | .hbm, ⟨11, _⟩ => ⟨S2x8960x48, .i32⟩
  | .hbm, ⟨12, _⟩ => ⟨S2x8960x48, .i32⟩
  | .hbm, ⟨13, _⟩ => ⟨S2x8960x48, .f32⟩
  | .hbm, ⟨14, _⟩ => ⟨S_, .f32⟩
  | .hbm, ⟨15, _⟩ => ⟨S2x8960x48, .f32⟩
  | .hbm, ⟨16, _⟩ => ⟨S2x8960x48, .f32⟩
  | .hbm, ⟨17, _⟩ => ⟨S_, .f32⟩
  | .hbm, ⟨18, _⟩ => ⟨S_, .f32⟩
  | .hbm, ⟨19, _⟩ => ⟨S2x8960x48, .f32⟩
  | .hbm, ⟨20, _⟩ => ⟨S2x8960x48, .f32⟩
  | .hbm, ⟨21, _⟩ => ⟨S2x8960x48, .bf16⟩
  | .hbm, ⟨22, _⟩ => ⟨S2x8960x768, .i32⟩
  | .hbm, ⟨23, _⟩ => ⟨S_, .i32⟩
  | .hbm, ⟨24, _⟩ => ⟨S2x8960x768, .i32⟩
  | .hbm, ⟨25, _⟩ => ⟨S2x8960x768, .i32⟩
  | .hbm, ⟨26, _⟩ => ⟨S_, .i32⟩
  | .hbm, ⟨27, _⟩ => ⟨S2x8960x768, .i32⟩
  | .hbm, ⟨28, _⟩ => ⟨S2x8960x768, .i32⟩
  | .hbm, ⟨29, _⟩ => ⟨S2x8960x1x768, .i32⟩
  | .hbm, ⟨30, _⟩ => ⟨S2x8960x1x768, .i32⟩
  | .hbm, ⟨31, _⟩ => ⟨S2x8960x2x768, .i32⟩
  | .hbm, ⟨32, _⟩ => ⟨S_, .i32⟩
  | .hbm, ⟨33, _⟩ => ⟨S2x8960x2x768, .i32⟩
  | .hbm, ⟨34, _⟩ => ⟨S2x8960x2x768, .i32⟩
  | .hbm, ⟨35, _⟩ => ⟨S_, .i32⟩
  | .hbm, ⟨36, _⟩ => ⟨S2x8960x2x768, .i32⟩
  | .hbm, ⟨37, _⟩ => ⟨S2x8960x2x768, .i1⟩
  | .hbm, ⟨38, _⟩ => ⟨S_, .i32⟩
  | .hbm, ⟨39, _⟩ => ⟨S2x8960x2x768, .i32⟩
  | .hbm, ⟨40, _⟩ => ⟨S2x8960x2x768, .i32⟩
  | .hbm, ⟨41, _⟩ => ⟨S_, .i32⟩
  | .hbm, ⟨42, _⟩ => ⟨S2x8960x2x768, .i32⟩
  | .hbm, ⟨43, _⟩ => ⟨S2x8960x2x768, .i1⟩
  | .hbm, ⟨44, _⟩ => ⟨S_, .i32⟩
  | .hbm, ⟨45, _⟩ => ⟨S2x8960x2x768, .i32⟩
  | .hbm, ⟨46, _⟩ => ⟨S2x8960x2x768, .i32⟩
  | .hbm, ⟨47, _⟩ => ⟨S_, .i32⟩
  | .hbm, ⟨48, _⟩ => ⟨S2x8960x2x768, .i32⟩
  | .hbm, ⟨49, _⟩ => ⟨S2x8960x2x768, .i1⟩
  | .hbm, ⟨50, _⟩ => ⟨S_, .i32⟩
  | .hbm, ⟨51, _⟩ => ⟨S2x8960x2x768, .i32⟩
  | .hbm, ⟨52, _⟩ => ⟨S2x8960x2x768, .i32⟩
  | .hbm, ⟨53, _⟩ => ⟨S_, .i32⟩
  | .hbm, ⟨54, _⟩ => ⟨S2x8960x2x768, .i32⟩
  | .hbm, ⟨55, _⟩ => ⟨S2x8960x2x768, .i1⟩
  | .hbm, ⟨56, _⟩ => ⟨S_, .bf16⟩
  | .hbm, ⟨57, _⟩ => ⟨S_, .bf16⟩
  | .hbm, ⟨58, _⟩ => ⟨S2x8960x2x768, .bf16⟩
  | .hbm, ⟨59, _⟩ => ⟨S2x8960x2x768, .bf16⟩
  | .hbm, ⟨60, _⟩ => ⟨S2x8960x2x768, .bf16⟩
  | .hbm, ⟨61, _⟩ => ⟨S_, .bf16⟩
  | .hbm, ⟨62, _⟩ => ⟨S_, .bf16⟩
  | .hbm, ⟨63, _⟩ => ⟨S2x8960x2x768, .bf16⟩
  | .hbm, ⟨64, _⟩ => ⟨S2x8960x2x768, .bf16⟩
  | .hbm, ⟨65, _⟩ => ⟨S2x8960x2x768, .bf16⟩
  | .hbm, ⟨66, _⟩ => ⟨S2x8960x2x768, .bf16⟩
  | .hbm, ⟨67, _⟩ => ⟨S_, .bf16⟩
  | .hbm, ⟨68, _⟩ => ⟨S_, .bf16⟩
  | .hbm, ⟨69, _⟩ => ⟨S2x8960x2x768, .bf16⟩
  | .hbm, ⟨70, _⟩ => ⟨S2x8960x2x768, .bf16⟩
  | .hbm, ⟨71, _⟩ => ⟨S2x8960x2x768, .bf16⟩
  | .hbm, ⟨72, _⟩ => ⟨S_, .bf16⟩
  | .hbm, ⟨73, _⟩ => ⟨S_, .bf16⟩
  | .hbm, ⟨74, _⟩ => ⟨S2x8960x2x768, .bf16⟩
  | .hbm, ⟨75, _⟩ => ⟨S2x8960x2x768, .bf16⟩
  | .hbm, ⟨76, _⟩ => ⟨S2x8960x2x768, .bf16⟩
  | .hbm, ⟨77, _⟩ => ⟨S2x8960x2x768, .bf16⟩
  | .hbm, ⟨78, _⟩ => ⟨S2x8960x2x768, .bf16⟩
  | .hbm, ⟨79, _⟩ => ⟨S2x8960x2x768, .bf16⟩
  | .hbm, ⟨80, _⟩ => ⟨S2x8960x2x768, .bf16⟩
  | .hbm, ⟨81, _⟩ => ⟨S2x8960x2x48x16, .bf16⟩
  | .hbm, ⟨82, _⟩ => ⟨S2x8960x1x48x1, .bf16⟩
  | .hbm, ⟨83, _⟩ => ⟨S2x8960x2x48x16, .bf16⟩
  | .hbm, ⟨84, _⟩ => ⟨S2x8960x2x48x16, .bf16⟩
  | .hbm, ⟨85, _⟩ => ⟨S2x8960x2x768, .bf16⟩
  | .hbm, ⟨86, _⟩ => ⟨S3x640x768x2, .bf16⟩
  | .hbm, ⟨87, _⟩ => ⟨S3x640x2x768, .bf16⟩
  | .hbm, ⟨88, _⟩ => ⟨S1x8960x2x768, .bf16⟩
  | .hbm, ⟨89, _⟩ => ⟨S8960x2x768, .bf16⟩
  | .hbm, ⟨90, _⟩ => ⟨S3x640x8960, .f32⟩
  | .hbm, ⟨91, _⟩ => ⟨S1x8960x2x768, .bf16⟩
  | .hbm, ⟨92, _⟩ => ⟨S8960x2x768, .bf16⟩
  | .hbm, ⟨93, _⟩ => ⟨S3x640x8960, .f32⟩
  | .hbm, ⟨94, _⟩ => ⟨S3x640x8960, .f32⟩
  | .hbm, ⟨95, _⟩ => ⟨S3x640x8960, .f32⟩
  | .hbm, ⟨96, _⟩ => ⟨S_, .f32⟩
  | .hbm, ⟨97, _⟩ => ⟨S3x640x8960, .f32⟩
  | .hbm, ⟨98, _⟩ => ⟨S3x640x8960, .f32⟩
  | .hbm, ⟨99, _⟩ => ⟨S_, .f32⟩
  | .hbm, ⟨100, _⟩ => ⟨S3x640x8960, .f32⟩
  | .hbm, ⟨101, _⟩ => ⟨S3x640x8960, .f32⟩
  | .hbm, ⟨102, _⟩ => ⟨S3x640x8960, .f32⟩
  | .hbm, ⟨103, _⟩ => ⟨S3x640x8960, .f32⟩
  | .hbm, ⟨104, _⟩ => ⟨S3x640x8960, .bf16⟩
  | .hbm, ⟨105, _⟩ => ⟨S1920x8960, .bf16⟩
  | _, _ => ⟨S3x640x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_c_9 : Ref sig .tc := ⟨.hbm, 44, rfl⟩
abbrev main_v28 : Ref sig .tc := ⟨.hbm, 45, rfl⟩
abbrev main_v29 : Ref sig .tc := ⟨.hbm, 46, rfl⟩
abbrev main_c_10 : Ref sig .tc := ⟨.hbm, 47, rfl⟩
abbrev main_v30 : Ref sig .tc := ⟨.hbm, 48, rfl⟩
abbrev main_v31 : Ref sig .tc := ⟨.hbm, 49, rfl⟩
abbrev main_c_11 : Ref sig .tc := ⟨.hbm, 50, rfl⟩
abbrev main_v32 : Ref sig .tc := ⟨.hbm, 51, rfl⟩
abbrev main_v33 : Ref sig .tc := ⟨.hbm, 52, rfl⟩
abbrev main_c_12 : Ref sig .tc := ⟨.hbm, 53, rfl⟩
abbrev main_v34 : Ref sig .tc := ⟨.hbm, 54, rfl⟩
abbrev main_v35 : Ref sig .tc := ⟨.hbm, 55, rfl⟩
abbrev main_cst_13 : Ref sig .tc := ⟨.hbm, 56, rfl⟩
abbrev main_cst_14 : Ref sig .tc := ⟨.hbm, 57, rfl⟩
abbrev main_call1_v0 : Ref sig .tc := ⟨.hbm, 58, rfl⟩
abbrev main_call1_v1 : Ref sig .tc := ⟨.hbm, 59, rfl⟩
abbrev main_v36 : Ref sig .tc := ⟨.hbm, 60, rfl⟩
abbrev main_cst_15 : Ref sig .tc := ⟨.hbm, 61, rfl⟩
abbrev main_cst_16 : Ref sig .tc := ⟨.hbm, 62, rfl⟩
abbrev main_call2_v0 : Ref sig .tc := ⟨.hbm, 63, rfl⟩
abbrev main_call2_v1 : Ref sig .tc := ⟨.hbm, 64, rfl⟩
abbrev main_v37 : Ref sig .tc := ⟨.hbm, 65, rfl⟩
abbrev main_v38 : Ref sig .tc := ⟨.hbm, 66, rfl⟩
abbrev main_cst_17 : Ref sig .tc := ⟨.hbm, 67, rfl⟩
abbrev main_cst_18 : Ref sig .tc := ⟨.hbm, 68, rfl⟩
abbrev main_call4_v0 : Ref sig .tc := ⟨.hbm, 69, rfl⟩
abbrev main_call4_v1 : Ref sig .tc := ⟨.hbm, 70, rfl⟩
abbrev main_v39 : Ref sig .tc := ⟨.hbm, 71, rfl⟩
abbrev main_cst_19 : Ref sig .tc := ⟨.hbm, 72, rfl⟩
abbrev main_cst_20 : Ref sig .tc := ⟨.hbm, 73, rfl⟩
abbrev main_call5_v0 : Ref sig .tc := ⟨.hbm, 74, rfl⟩
abbrev main_call5_v1 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_21 : Ref sig .tc := ⟨.hbm, 96, rfl⟩
abbrev main_v60 : Ref sig .tc := ⟨.hbm, 97, rfl⟩
abbrev main_v61 : Ref sig .tc := ⟨.hbm, 98, rfl⟩
abbrev main_cst_22 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]
-- ==== Proof.Words.lean ====
/-
  Hand-written, untrusted. The two number formats that the kernel and the reference decode, one element at a time: a
  four-bit e2m1 field, and a power-of-two scale code. What the kernel's bit patterns denote, as extended reals.
-/
module

public import Idealize.ShloMosaic.Lib.Tactic
public import Idealize.ShloMosaic.Lib.IdealHost
public import Idealize.ShloMosaic.PureOps.Ideal.Laws

@[expose] public section

noncomputable section

namespace Cert.Hand

open Idealize.ShloMosaic

/-- The value of an e2m1 field: bit 3 the sign, bits 0 to 2 the magnitude. -/
def e2m1 : Fin 16 → ℝ := ![0, 1 / 2, 1, 3 / 2, 2, 3, 4, 6, 0, -(1 / 2), -1, -(3 / 2), -2, -3, -4, -6]

/-- The field in the low half of a byte. -/
def lowField (b : BitVec 8) : Fin 16 := ⟨b.toNat % 16, Nat.mod_lt _ (by decide)⟩

/-- The field in the high half of a byte. -/
def highField (b : BitVec 8) : Fin 16 := ⟨b.toNat / 16, by have := b.isLt; omega⟩

/-- The value of a scale code `e`: `2 ^ (e - 127)`, and `+∞` at 255. -/
def e8m0 (e : BitVec 8) : EReal := if e.toNat = 255 then ⊤ else (((2 : ℝ) ^ ((e.toNat : ℤ) - 127) : ℝ) : EReal)

/-- The eight-bit float that the kernel makes of a byte's low field: the sign to bit 7, the magnitude to bits 2 to 4. -/
def lowByte (b : BitVec 8) : BitVec 8 := ((b &&& 8#8) <<< 4) ||| ((b &&& 7#8) <<< 2)

/-- The eight-bit float that the kernel makes of a byte's high field. -/
def highByte (b : BitVec 8) : BitVec 8 := (b &&& 128#8) ||| ((b &&& 112#8) >>> 2)

/-- The eight-bit float of an e2m1 field. -/
def byteOf : Fin 16 → BitVec 8 := ![0, 4, 8, 12, 16, 20, 24, 28, 128, 132, 136, 140, 144, 148, 152, 156]

theorem lowByte_eq (b : BitVec 8) : lowByte b = byteOf (lowField b) := by
  revert b; decide +kernel

theorem highByte_eq (b : BitVec 8) : highByte b = byteOf (highField b) := by
  revert b; decide +kernel

/-- `64.0`. -/
theorem ofBits_64 : Ideal.ofBits .bf16 0x4280#16 = ((64 : ℝ) : EReal) := by
  simp [Ideal.ofBits, Ideal.ieee, -EReal.coe_mul]; norm_num

/-- The eight-bit float of a field, times 64, is the field's value. -/
theorem byteOf_mul (i : Fin 16) :
    Ideal.ofBits .fp8e4m3 (byteOf i) * Ideal.ofBits .bf16 0x4280#16 = ((e2m1 i : ℝ) : EReal) := by
  rw [ofBits_64]
  fin_cases i <;>
    simp [Ideal.ofBits, Ideal.e4m3fn, byteOf, e2m1, -EReal.coe_mul] <;> rw [← EReal.coe_mul] <;> norm_num

/-- The bfloat16 word that the kernel makes of a scale code. -/
def scaleWord (e : BitVec 8) : BitVec 16 := (e.setWidth 32 <<< 7).setWidth 16

theorem scaleWord_fields (e : BitVec 8) :
    (scaleWord e).extractLsb' 15 1 = 0#1 ∧ (scaleWord e).extractLsb' 7 8 = e ∧ (scaleWord e).extractLsb' 0 7 = 0#7 := by
  revert e; decide +kernel

/-- Unless the code is 0, the word of a scale code denotes the code's value. -/
theorem ofBits_scaleWord (e : BitVec 8) (he : e.toNat ≠ 0) : Ideal.ofBits .bf16 (scaleWord e) = e8m0 e := by
  obtain ⟨h1, h2, h3⟩ := scaleWord_fields e
  show Ideal.ieee 8 7 (scaleWord e) = _
  unfold Ideal.ieee e8m0
  simp only [show (8 : ℕ) + 7 = 15 from rfl, h1, h2, h3]
  by_cases h : e.toNat = 255
  · simp [h]
  · rw [if_neg (by simpa using h), if_neg he, if_neg h]
    congr 1
    have : ((e.toNat : ℤ) - 127) = 7 + ((e.toNat : ℤ) - 127 - 7) := by ring
    conv_rhs => rw [this, zpow_add₀ (by norm_num : (2 : ℝ) ≠ 0)]
    norm_num

end Cert.Hand

end
-- ==== Proof.Lanes.lean ====
/-
  Hand-written, untrusted. The kernel works on four bytes at a time in one 32-bit word, and on two bfloat16 words at a
  time: reading bytes as words, working on the words and reading them back as bytes is working on each byte by itself.
-/
module

public import proofs.«01_k».proof.Proof.Words
public import Idealize.ShloMosaic.Lib.BitcastFour
public import Idealize.ShloMosaic.Lib.BitcastPair
public import Idealize.ShloMosaic.Lib.Pointwise.IndexBridge

@[expose] public section

noncomputable section

namespace Cert.Hand

open Idealize.ShloMosaic

/-- The word that the kernel makes of four bytes' low fields. -/
def lowWord (w : BitVec 32) : BitVec 32 := ((w &&& 134744072#32) <<< 4) ||| ((w &&& 117901063#32) <<< 2)

/-- The word that the kernel makes of four bytes' high fields. -/
def highWord (w : BitVec 32) : BitVec 32 := (w &&& 2155905152#32) ||| ((w &&& 1886417008#32) >>> 2)

/-- Byte `k` of `lowWord w` is `lowByte` of byte `k` of `w`. -/
theorem lowWord_byte (w : BitVec 32) (k : Nat) (hk : k < 4) :
    (lowWord w).extractLsb' (8 * k) 8 = lowByte (w.extractLsb' (8 * k) 8) := by
  apply BitVec.eq_of_getLsbD_eq
  intro i hi
  interval_cases k <;> interval_cases i <;>
    simp [lowWord, lowByte, BitVec.getLsbD_or, BitVec.getLsbD_and, BitVec.getLsbD_shiftLeft, BitVec.getLsbD_extractLsb',
      BitVec.getLsbD_ofNat, Nat.testBit, Nat.shiftRight_eq_div_pow]

/-- Byte `k` of `highWord w` is `highByte` of byte `k` of `w`. -/
theorem highWord_byte (w : BitVec 32) (k : Nat) (hk : k < 4) :
    (highWord w).extractLsb' (8 * k) 8 = highByte (w.extractLsb' (8 * k) 8) := by
  apply BitVec.eq_of_getLsbD_eq
  intro i hi
  interval_cases k <;> interval_cases i <;>
    simp [highWord, highByte, BitVec.getLsbD_or, BitVec.getLsbD_and, BitVec.getLsbD_ushiftRight, BitVec.getLsbD_extractLsb',
      BitVec.getLsbD_ofNat, Nat.testBit, Nat.shiftRight_eq_div_pow]

/-- The column's row, at rank 2. -/
theorem row_ix2 {a b : Nat} (i : Fin a) (j : Fin b) : (⟨2, ![a, b]⟩ : Shape).row (ix2 i j) = i.val := rfl

theorem srcIdx_ix2 {R r n v w : Nat} (h : (⟨2, ![R, n]⟩ : Shape).Bitcasts v ⟨2, ![r, n]⟩ w) (a : Fin r) (l : Fin n) (p : Nat)
    (hp) (p' : Fin R) (e : p'.val = p) : h.srcIdx (ix2 a l) p hp = ix2 p' l := by
  subst e
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ (1 + 2 = 2); decide))

/-- An operation `g` on words that acts as `f` on each of the four bytes, between the two readings, is `f` on each element. -/
theorem bytes_apply {R r n : Nat} (g : BitVec 32 → BitVec 32) (f : BitVec 8 → BitVec 8)
    (hg : ∀ w k, k < 4 → (g w).extractLsb' (8 * k) 8 = f (w.extractLsb' (8 * k) 8))
    (x : (⟨2, ![R, n]⟩ : Shape).Idx → BitVec 8) (h1 : (⟨2, ![R, n]⟩ : Shape).Bitcasts 8 ⟨2, ![r, n]⟩ 32)
    (h2 : (⟨2, ![r, n]⟩ : Shape).Bitcasts 32 ⟨2, ![R, n]⟩ 8) (hr : R = 4 * r) (a : Fin R) (l : Fin n) :
    bitcast ⟨2, ![R, n]⟩ 8 (fun j => g (bitcast ⟨2, ![r, n]⟩ 32 x h1 j)) h2 (ix2 a l) = f (x (ix2 a l)) := by
  have ha := a.isLt
  have hk : a.val % 4 < 4 := Nat.mod_lt _ (by decide)
  have hx : x (ix2 a l) = (bitcast ⟨2, ![r, n]⟩ 32 x h1 (ix2 ⟨a.val / 4, by omega⟩ l)).extractLsb' (8 * (a.val % 4)) 8 := by
    apply BitVec.eq_of_getLsbD_eq
    intro q hq
    rw [BitVec.getLsbD_extractLsb', ix2_eq_valueIdx, ix2_eq_valueIdx, bitcast_8_32_getLsbD_ix2 x h1 ⟨a.val / 4, by omega⟩ l (8 * (a.val % 4) + q) (by omega) a
      (by show a.val = 4 * (a.val / 4) + _; omega)]
    have : (8 * (a.val % 4) + q) % 8 = q := by omega
    simp [hq, this]
  rw [hx, ← hg _ _ hk]
  apply BitVec.eq_of_getLsbD_eq
  intro q hq
  rw [bitcast_getLsbD _ h2 _ q hq (by decide), BitVec.getLsbD_extractLsb']
  rw [srcIdx_ix2 h2 a l _ _ ⟨a.val / 4, by omega⟩ (by simp only [row_ix2]; omega)]
  simp only [row_ix2]
  have : (a.val * 8 + q) % 32 = 8 * (a.val % 4) + q := by omega
  simp [hq, this]

/-- The low half of two joined sixteen-bit words. -/
theorem low_half (x y : BitVec 16) : (y ++ x).extractLsb' (16 * 0) 16 = x := by
  apply BitVec.eq_of_getLsbD_eq
  intro q hq
  rw [BitVec.getLsbD_extractLsb', BitVec.getLsbD_append]
  simp [hq]

/-- The high half of two joined sixteen-bit words. -/
theorem high_half (x y : BitVec 16) : (y ++ x).extractLsb' (16 * 1) 16 = y := by
  apply BitVec.eq_of_getLsbD_eq
  intro q hq
  rw [BitVec.getLsbD_extractLsb', BitVec.getLsbD_append]
  simp [hq]

/-- Sixteen-bit elements read two to a 32-bit word, the words permuted along the lanes, the words read back: the elements
    permuted along the lanes, by the word that stands in their pair's place. -/
theorem gather_apply {R r n : Nat} (x : (⟨2, ![R, n]⟩ : Shape).Idx → BitVec 16) (idx : IVec ⟨2, ![r, n]⟩ 32)
    (h1 : (⟨2, ![R, n]⟩ : Shape).Bitcasts 16 ⟨2, ![r, n]⟩ 32) (h2 : (⟨2, ![r, n]⟩ : Shape).Bitcasts 32 ⟨2, ![R, n]⟩ 16)
    (hr : R = 2 * r) (a : Fin R) (l k : Fin n) (hk : (idx (ix2 ⟨a.val / 2, by omega⟩ l)).toNat = k.val) :
    bitcast ⟨2, ![R, n]⟩ 16 (dynamicGather 1 (bitcast ⟨2, ![r, n]⟩ 32 x h1) idx) h2 (ix2 a l) = x (ix2 a k) := by
  have ha := a.isLt
  rw [bitcast_32_16, srcIdx_ix2 h2 a l _ _ ⟨a.val / 2, by omega⟩ (by simp only [row_ix2])]
  simp only [row_ix2]
  have hg : dynamicGather 1 (bitcast ⟨2, ![r, n]⟩ 32 x h1) idx (ix2 ⟨a.val / 2, by omega⟩ l)
      = bitcast ⟨2, ![r, n]⟩ 32 x h1 (ix2 ⟨a.val / 2, by omega⟩ k) := by
    unfold dynamicGather
    congr 1
    funext b
    match b with
    | ⟨0, _⟩ => rfl
    | ⟨1, _⟩ =>
      apply Fin.ext
      show (idx (ix2 ⟨a.val / 2, _⟩ l)).toNat % n = k.val
      rw [hk, Nat.mod_eq_of_lt k.isLt]
  rw [hg, bitcast_16_32]
  rw [srcIdx_ix2 h1 _ k _ _ ⟨2 * (a.val / 2) + 1, by omega⟩ (by simp only [row_ix2]),
    srcIdx_ix2 h1 _ k _ _ ⟨2 * (a.val / 2), by omega⟩ (by simp only [row_ix2])]
  rcases Nat.mod_two_eq_zero_or_one a.val with h | h
  · have e : (⟨2 * (a.val / 2), by omega⟩ : Fin R) = a := Fin.ext (by show 2 * (a.val / 2) = a.val; omega)
    rw [h, e]
    exact low_half _ _
  · have e : (⟨2 * (a.val / 2) + 1, by omega⟩ : Fin R) = a := Fin.ext (by show 2 * (a.val / 2) + 1 = a.val; omega)
    rw [h, e]
    exact high_half _ _

end Cert.Hand

end
-- ==== Proof.Block.lean ====
/-
  Hand-written, untrusted. What one grid point's decoding computes: the two pieces (low fields, high fields) that the body
  stores for 128 lanes of codes, read at an index.
-/
module

public import proofs.«01_k».proof.Proof.Lanes
public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Hand

open Idealize.ShloMosaic Cert.KernelIdeal Cert.KernelIdeal.Gen

/-- The lane number divided by sixteen, rounded down, as the body computes it. -/
def laneDiv : IVec S128x128 32 :=
  have v11 : IVec S128x128 32 := iota .tc S128x128 32 [1] iota_S128x128_d1_w32
  have v12 : IVec S128x128 32 := broadcast S128x128 16#32
  have v13 : IVec S128x128 32 := divsi v11 v12
  have v14 : IVec S128x128 32 := broadcast S128x128 0#32
  have v15 : IVec S128x128 1 := cmpi .sgt v11 v14
  have v16 : IVec S128x128 32 := extui 32 v15 natLt_1_32
  have v17 : IVec S128x128 32 := broadcast S128x128 0#32
  have v18 : IVec S128x128 1 := cmpi .slt v11 v17
  have v19 : IVec S128x128 32 := extui 32 v18 natLt_1_32
  have v20 : IVec S128x128 32 := subi v16 v19
  let v21 : BitVec 1 := Scalar.cmpi .sgt 16#32 0#32
  let v22 : BitVec 32 := Scalar.extui v21
  let v23 : BitVec 1 := Scalar.cmpi .slt 16#32 0#32
  let v24 : BitVec 32 := Scalar.extui v23
  let v25 : BitVec 32 := Scalar.subi v22 v24
  have v26 : IVec S128x128 32 := broadcast S128x128 v25
  have v27 : IVec S128x128 1 := cmpi .ne v20 v26
  have v28 : IVec S128x128 32 := broadcast S128x128 16#32
  have v29 : IVec S128x128 32 := remsi v11 v28
  have v30 : IVec S128x128 32 := broadcast S128x128 0#32
  have v31 : IVec S128x128 1 := cmpi .ne v29 v30
  have v32 : IVec S128x128 1 := andi v27 v31
  have v33 : IVec S128x128 32 := broadcast S128x128 1#32
  have v34 : IVec S128x128 32 := subi v13 v33
  select v32 v34 v13

/-- The lane of the scale that a lane of codes takes, `k` being the first lane of the chunk's scales. -/
def scaleLane (k : BitVec 32) : IVec S128x128 32 := addi laneDiv (broadcast S128x128 k)

/-- What the body stores for 128 lanes' low fields, of the codes `X`, the scale codes `Y` and the chunk's first scale `k`. -/
def lowPiece (X : Vec Ideal S1x256x128 .i8) (Y : Vec Ideal S1x256x48 .i8) (k : BitVec 32) : FVec Ideal S1x256x128 .bf16 :=
  k0_pay11 (F := Ideal) (k0_pay4 (F := Ideal) X) (k0_pay5 (F := Ideal) Y) (scaleLane k) (cmpi .slt (scaleLane k) (broadcast S128x128 0#32)) k0_pay8

/-- The same for the high fields. -/
def highPiece (X : Vec Ideal S1x256x128 .i8) (Y : Vec Ideal S1x256x48 .i8) (k : BitVec 32) : FVec Ideal S1x256x128 .bf16 :=
  k0_pay12 (F := Ideal) (k0_pay4 (F := Ideal) X) (k0_pay5 (F := Ideal) Y) (scaleLane k) (cmpi .slt (scaleLane k) (broadcast S128x128 0#32)) k0_pay8

/-- The lane that the body looks a scale up at: lane `l` of chunk `c` takes scale `8 c + l / 16`. -/
theorem lane_eq (c : Fin 6) (r l : Fin 128) :
    select (cmpi .slt (scaleLane (BitVec.ofNat 32 (8 * c.val))) (broadcast S128x128 0#32))
        (addi (scaleLane (BitVec.ofNat 32 (8 * c.val))) k0_pay8) (scaleLane (BitVec.ofNat 32 (8 * c.val))) (ix2 r l)
      = BitVec.ofNat 32 (8 * c.val + l.val / 16) := by
  pointwise [scaleLane, laneDiv, k0_pay8]
  revert c l
  decide +kernel

/-- The bfloat16 scales that the body spreads over the lanes of chunk `c`. -/
theorem expand_apply (Y : Vec Ideal S1x256x48 .i8) (c : Fin 6) (r : Fin 256) (l : Fin 128) :
    k0_pay9 (F := Ideal) (k0_pay5 (F := Ideal) Y) (scaleLane (BitVec.ofNat 32 (8 * c.val)))
        (cmpi .slt (scaleLane (BitVec.ofNat 32 (8 * c.val))) (broadcast S128x128 0#32)) k0_pay8 (ix2 r l)
      = Ideal.ofBits .bf16 (scaleWord (Y (ix3 0 r ⟨8 * c.val + l.val / 16, by omega⟩))) := by
  have hk : 8 * c.val + l.val / 16 < 48 := by omega
  unfold k0_pay9 k0_pay5
  show Ideal.ofBits .bf16 (bitcast S256x128 16 (dynamicGather 1 (bitcast S128x128 32 (k0_pay3 (F := Ideal) Y) _) _) _ (ix2 r l)) = _
  rw [gather_apply (k0_pay3 (F := Ideal) Y) _ _ _ rfl r l ⟨8 * c.val + l.val / 16, by omega⟩ (by
    rw [shapeCast_shapeCast, lane_eq, BitVec.toNat_ofNat]
    exact Nat.mod_eq_of_lt (by omega))]
  congr 1
  pointwise [k0_pay3]
  rw [dif_pos hk]
  rfl

/-- The codes of a chunk without their unit axis. -/
theorem codes_apply (X : Vec Ideal S1x256x128 .i8) (r : Fin 256) (l : Fin 128) :
    k0_pay4 (F := Ideal) X (ix2 r l) = X (ix3 0 r l) := by
  pointwise [k0_pay4]

/-- The eight-bit floats of the low fields, read at an index. -/
theorem lowBytes_apply (v : IVec S256x128 8) (r : Fin 256) (l : Fin 128) :
    bitcast S256x128 8
        (ori (shli (andi (k0_pay10 v) (broadcast S64x128 134744072#32)) (broadcast S64x128 4#32))
          (shli (andi (k0_pay10 v) (broadcast S64x128 117901063#32)) (broadcast S64x128 2#32)))
        bitcasts_S64x128_w32_S256x128_w8 (ix2 r l) = byteOf (lowField (v (ix2 r l))) := by
  rw [← lowByte_eq]
  exact bytes_apply lowWord lowByte lowWord_byte v bitcasts_S256x128_w8_S64x128_w32 bitcasts_S64x128_w32_S256x128_w8 rfl r l

/-- The eight-bit floats of the high fields, read at an index. -/
theorem highBytes_apply (v : IVec S256x128 8) (r : Fin 256) (l : Fin 128) :
    bitcast S256x128 8
        (ori (andi (k0_pay10 v) (broadcast S64x128 2155905152#32))
          (shrui (andi (k0_pay10 v) (broadcast S64x128 1886417008#32)) (broadcast S64x128 2#32)))
        bitcasts_S64x128_w32_S256x128_w8 (ix2 r l) = byteOf (highField (v (ix2 r l))) := by
  rw [← highByte_eq]
  exact bytes_apply highWord highByte highWord_byte v bitcasts_S256x128_w8_S64x128_w32 bitcasts_S64x128_w32_S256x128_w8 rfl r l

/-- The piece of the low fields of chunk `c`, at row `r` and lane `l`: the field's value times the scale of its block. -/
theorem lowPiece_apply (X : Vec Ideal S1x256x128 .i8) (Y : Vec Ideal S1x256x48 .i8) (c : Fin 6) (r : Fin 256) (l : Fin 128) :
    lowPiece X Y (BitVec.ofNat 32 (8 * c.val)) (ix3 0 r l)
      = ((e2m1 (lowField (X (ix3 0 r l))) : ℝ) : EReal)
        * Ideal.ofBits .bf16 (scaleWord (Y (ix3 0 r ⟨8 * c.val + l.val / 16, by omega⟩))) := by
  unfold lowPiece k0_pay11
  pointwise
  rw [expand_apply, lowBytes_apply, byteOf_mul, codes_apply]

/-- The piece of the high fields of chunk `c`, at row `r` and lane `l`. -/
theorem highPiece_apply (X : Vec Ideal S1x256x128 .i8) (Y : Vec Ideal S1x256x48 .i8) (c : Fin 6) (r : Fin 256) (l : Fin 128) :
    highPiece X Y (BitVec.ofNat 32 (8 * c.val)) (ix3 0 r l)
      = ((e2m1 (highField (X (ix3 0 r l))) : ℝ) : EReal)
        * Ideal.ofBits .bf16 (scaleWord (Y (ix3 0 r ⟨8 * c.val + l.val / 16, by omega⟩))) := by
  unfold highPiece k0_pay12
  pointwise
  rw [expand_apply, highBytes_apply, byteOf_mul, codes_apply]

/-- A product chunk: of 480 rows `X` and the two decoded matrices `A` and `B`, the gate times its logistic times the other product. -/
theorem product_apply (X : Vec Ideal S480x1536 .bf16) (A B : Vec Ideal S1x256x1536 .bf16) (r : Fin 480) (j : Fin 256) :
    k0_pay2 (F := Ideal) X A B (ix2 r j)
      = (∑ k : Fin 1536, X (ix2 r k) * A (ix3 0 j k)) * Ideal.logistic (∑ k : Fin 1536, X (ix2 r k) * A (ix3 0 j k))
        * (∑ k : Fin 1536, X (ix2 r k) * B (ix3 0 j k)) := by
  pointwise [k0_pay2]

/-- The decoded weight at row `n` of matrix `h` and position `k` of the contraction: the low fields of the 768 bytes of a
    row stand first, the high fields after them; sixteen bytes share a scale. -/
def weight (x1 : Vec Ideal S2x256x768 .i8) (x2 : Vec Ideal S2x256x48 .i8) (h : Fin 2) (n : Fin 256) (k : Fin 1536) : EReal :=
  if hk : k.val < 768 then
    ((e2m1 (lowField (x1 (ix3 h n ⟨k.val, hk⟩))) : ℝ) : EReal)
      * Ideal.ofBits .bf16 (scaleWord (x2 (ix3 h n ⟨k.val / 16, by omega⟩)))
  else
    ((e2m1 (highField (x1 (ix3 h n ⟨k.val - 768, by omega⟩))) : ℝ) : EReal)
      * Ideal.ofBits .bf16 (scaleWord (x2 (ix3 h n ⟨(k.val - 768) / 16, by omega⟩)))

/-- The weights as the scratch holds them. -/
def weights (x1 : Vec Ideal S2x256x768 .i8) (x2 : Vec Ideal S2x256x48 .i8) : Vec Ideal S2x256x1536 .bf16 :=
  fun y => weight x1 x2 (y 0) (y 1) (y 2)

/-- The rectangles of the stores lie in their arrays. -/
theorem low_inb (h : Fin 2) (c : Fin 6) (a : Fin 3) : ![h.val, 0, 128 * c.val] a + S1x256x128.size a ≤ S2x256x1536.size a := by
  fin_cases a <;> simp [S1x256x128, S2x256x1536] <;> omega

theorem high_inb (h : Fin 2) (c : Fin 6) (a : Fin 3) : ![h.val, 0, 768 + 128 * c.val] a + S1x256x128.size a ≤ S2x256x1536.size a := by
  fin_cases a <;> simp [S1x256x128, S2x256x1536] <;> omega

theorem product_inb (q : Fin 4) (a : Fin 2) : ![480 * q.val, 0] a + S480x256.size a ≤ S1920x256.size a := by
  fin_cases a <;> simp [S480x256, S1920x256] <;> omega

/-- The store of the low fields of chunk `c` of matrix `h`. -/
def lowStore (x1 : Vec Ideal S2x256x768 .i8) (x2 : Vec Ideal S2x256x48 .i8) (h : Fin 2) (c : Fin 6) : View.Piece (Elt Ideal) S2x256x1536 .bf16 :=
  ⟨Rect.unit ![h.val, 0, 128 * c.val] S1x256x128.size (low_inb h c),
    lowPiece
      (View.ld x1 (Rect.unit ![h.val, 0, 128 * c.val] S1x256x128.size (by intro a; fin_cases a <;> simp [S1x256x128, S2x256x768] <;> omega)))
      (View.ld x2 (Rect.unit ![h.val, 0, 0] S1x256x48.size (by intro a; fin_cases a <;> simp [S1x256x48, S2x256x48] <;> omega)))
      (BitVec.ofNat 32 (8 * c.val))⟩

/-- The store of the high fields of chunk `c` of matrix `h`. -/
def highStore (x1 : Vec Ideal S2x256x768 .i8) (x2 : Vec Ideal S2x256x48 .i8) (h : Fin 2) (c : Fin 6) : View.Piece (Elt Ideal) S2x256x1536 .bf16 :=
  ⟨Rect.unit ![h.val, 0, 768 + 128 * c.val] S1x256x128.size (high_inb h c),
    highPiece
      (View.ld x1 (Rect.unit ![h.val, 0, 128 * c.val] S1x256x128.size (by intro a; fin_cases a <;> simp [S1x256x128, S2x256x768] <;> omega)))
      (View.ld x2 (Rect.unit ![h.val, 0, 0] S1x256x48.size (by intro a; fin_cases a <;> simp [S1x256x48, S2x256x48] <;> omega)))
      (BitVec.ofNat 32 (8 * c.val))⟩

/-- The scratch's rectangle of one store places its index at the chunk's lanes. -/
theorem lowStore_emb (x1 : Vec Ideal S2x256x768 .i8) (x2 : Vec Ideal S2x256x48 .i8) (h : Fin 2) (c : Fin 6) (r : Fin 256) (l : Fin 128) :
    (lowStore x1 x2 h c).1.emb (ix3 0 r l) = ix3 h r ⟨128 * c.val + l.val, by omega⟩ := by
  funext a
  apply Fin.ext
  refine (Rect.idx_unit_val (s := S2x256x1536) ![h.val, 0, 128 * c.val] S1x256x128.size (low_inb h c) (ix3 0 r l) a).trans ?_
  fin_cases a <;> simp

theorem highStore_emb (x1 : Vec Ideal S2x256x768 .i8) (x2 : Vec Ideal S2x256x48 .i8) (h : Fin 2) (c : Fin 6) (r : Fin 256) (l : Fin 128) :
    (highStore x1 x2 h c).1.emb (ix3 0 r l) = ix3 h r ⟨768 + 128 * c.val + l.val, by omega⟩ := by
  funext a
  apply Fin.ext
  refine (Rect.idx_unit_val (s := S2x256x1536) ![h.val, 0, 768 + 128 * c.val] S1x256x128.size (high_inb h c) (ix3 0 r l) a).trans ?_
  fin_cases a <;> simp

/-- A load of a chunk's codes, and of a matrix's scale codes, read at an index. -/
theorem ld_codes (x1 : Vec Ideal S2x256x768 .i8) (h : Fin 2) (c : Fin 6) (inb) (r : Fin 256) (l : Fin 128) :
    View.ld x1 (Rect.unit ![h.val, 0, 128 * c.val] S1x256x128.size inb) (ix3 0 r l) = x1 (ix3 h r ⟨128 * c.val + l.val, by omega⟩) :=
  View.ld_unit_apply_of _ _ _ _ _ _ fun a => by fin_cases a <;> simp

theorem ld_scales (x2 : Vec Ideal S2x256x48 .i8) (h : Fin 2) (inb) (r : Fin 256) (k : Fin 48) :
    View.ld x2 (Rect.unit ![h.val, 0, 0] S1x256x48.size inb) (ix3 0 r k) = x2 (ix3 h r k) :=
  View.ld_unit_apply_of _ _ _ _ _ _ fun a => by fin_cases a <;> simp

/-- Each store of low fields writes its part of `weights`. -/
theorem lowStore_eq (x1 : Vec Ideal S2x256x768 .i8) (x2 : Vec Ideal S2x256x48 .i8) (h : Fin 2) (c : Fin 6)
    (x : (lowStore x1 x2 h c).1.shape.Idx) : (lowStore x1 x2 h c).2 x = weights x1 x2 ((lowStore x1 x2 h c).1.emb x) := by
  obtain ⟨z, r, l, rfl⟩ : ∃ (z : Fin 1) (r : Fin 256) (l : Fin 128), x = ix3 z r l := ⟨x 0, x 1, x 2, eq_ix3 x⟩
  obtain rfl : z = 0 := Subsingleton.elim _ _
  rw [lowStore_emb]
  refine (lowPiece_apply _ _ c r l).trans ?_
  rw [ld_codes, ld_scales]
  show _ = weight x1 x2 h r ⟨128 * c.val + l.val, _⟩
  rw [weight, dif_pos (show 128 * c.val + l.val < 768 by omega)]
  have e : (⟨(128 * c.val + l.val) / 16, by omega⟩ : Fin 48) = ⟨8 * c.val + l.val / 16, by omega⟩ :=
    Fin.ext (by show (128 * c.val + l.val) / 16 = 8 * c.val + l.val / 16; omega)
  simp only [e]

/-- Each store of high fields writes its part of `weights`. -/
theorem highStore_eq (x1 : Vec Ideal S2x256x768 .i8) (x2 : Vec Ideal S2x256x48 .i8) (h : Fin 2) (c : Fin 6)
    (x : (highStore x1 x2 h c).1.shape.Idx) : (highStore x1 x2 h c).2 x = weights x1 x2 ((highStore x1 x2 h c).1.emb x) := by
  obtain ⟨z, r, l, rfl⟩ : ∃ (z : Fin 1) (r : Fin 256) (l : Fin 128), x = ix3 z r l := ⟨x 0, x 1, x 2, eq_ix3 x⟩
  obtain rfl : z = 0 := Subsingleton.elim _ _
  rw [highStore_emb]
  refine (highPiece_apply _ _ c r l).trans ?_
  rw [ld_codes, ld_scales]
  show _ = weight x1 x2 h r ⟨768 + 128 * c.val + l.val, _⟩
  rw [weight, dif_neg (show ¬ 768 + 128 * c.val + l.val < 768 by omega)]
  have e1 : (⟨768 + 128 * c.val + l.val - 768, by omega⟩ : Fin 768) = ⟨128 * c.val + l.val, by omega⟩ := Fin.ext (by show 768 + 128 * c.val + l.val - 768 = 128 * c.val + l.val; omega)
  have e2 : (⟨(768 + 128 * c.val + l.val - 768) / 16, by omega⟩ : Fin 48) = ⟨8 * c.val + l.val / 16, by omega⟩ :=
    Fin.ext (by show (768 + 128 * c.val + l.val - 768) / 16 = 8 * c.val + l.val / 16; omega)
  simp only [e1, e2]

/-- The twenty-four stores, last first. -/
def stores (x1 : Vec Ideal S2x256x768 .i8) (x2 : Vec Ideal S2x256x48 .i8) : List (View.Piece (Elt Ideal) S2x256x1536 .bf16) :=
  [highStore x1 x2 1 5, lowStore x1 x2 1 5, highStore x1 x2 1 4, lowStore x1 x2 1 4, highStore x1 x2 1 3, lowStore x1 x2 1 3,
   highStore x1 x2 1 2, lowStore x1 x2 1 2, highStore x1 x2 1 1, lowStore x1 x2 1 1, highStore x1 x2 1 0, lowStore x1 x2 1 0,
   highStore x1 x2 0 5, lowStore x1 x2 0 5, highStore x1 x2 0 4, lowStore x1 x2 0 4, highStore x1 x2 0 3, lowStore x1 x2 0 3,
   highStore x1 x2 0 2, lowStore x1 x2 0 2, highStore x1 x2 0 1, lowStore x1 x2 0 1, highStore x1 x2 0 0, lowStore x1 x2 0 0]

/-- The stores leave the scratch at `weights`. -/
theorem canon_stores (x1 : Vec Ideal S2x256x768 .i8) (x2 : Vec Ideal S2x256x48 .i8) :
    View.canon (stores x1 x2) = weights x1 x2 := by
  funext y
  refine View.canon_apply_of_pieces (weights x1 x2) (stores x1 x2) (View.PiecesOf.mem ?_) y ?_
  · exact ⟨highStore_eq _ _ _ _, lowStore_eq _ _ _ _, highStore_eq _ _ _ _, lowStore_eq _ _ _ _, highStore_eq _ _ _ _, lowStore_eq _ _ _ _,
      highStore_eq _ _ _ _, lowStore_eq _ _ _ _, highStore_eq _ _ _ _, lowStore_eq _ _ _ _, highStore_eq _ _ _ _, lowStore_eq _ _ _ _,
      highStore_eq _ _ _ _, lowStore_eq _ _ _ _, highStore_eq _ _ _ _, lowStore_eq _ _ _ _, highStore_eq _ _ _ _, lowStore_eq _ _ _ _,
      highStore_eq _ _ _ _, lowStore_eq _ _ _ _, highStore_eq _ _ _ _, lowStore_eq _ _ _ _, highStore_eq _ _ _ _, lowStore_eq _ _ _ _, trivial⟩
  · exact View.cover_of_tiledL (stores x1 x2) S1x256x128.size (by sl_kernel_rfl) y

/-- One store of a product chunk: rows `480 q` to `480 q + 479` of the output block. -/
def productStore (x0 : Vec Ideal S1920x1536 .bf16) (x1 : Vec Ideal S2x256x768 .i8) (x2 : Vec Ideal S2x256x48 .i8)
    (v : View sig .tc .vmem S2x256x1536 .bf16) (q : Fin 4) : View.Piece (Elt Ideal) S1920x256 .bf16 :=
  ⟨Rect.unit ![480 * q.val, 0] S480x256.size (product_inb q),
    k0_pay2 (F := Ideal)
      (View.ld x0 (Rect.unit ![480 * q.val, 0] S480x1536.size (by intro a; fin_cases a <;> simp [S480x1536, S1920x1536] <;> omega)))
      (v.readCov (stores x1 x2) (Rect.unit (s := S2x256x1536) ![0, 0, 0] S1x256x1536.size inb_S2x256x1536_S1x256x1536_0_0_0).toLoadRect)
      (v.readCov (stores x1 x2) (Rect.unit (s := S2x256x1536) ![1, 0, 0] S1x256x1536.size inb_S2x256x1536_S1x256x1536_1_0_0).toLoadRect)⟩

/-- The value of the output block at row `r` and lane `j`. -/
def blockValue (x0 : Vec Ideal S1920x1536 .bf16) (x1 : Vec Ideal S2x256x768 .i8) (x2 : Vec Ideal S2x256x48 .i8)
    (r : Fin 1920) (j : Fin 256) : EReal :=
  (∑ k : Fin 1536, x0 (ix2 r k) * weight x1 x2 0 j k) * Ideal.logistic (∑ k : Fin 1536, x0 (ix2 r k) * weight x1 x2 0 j k)
    * (∑ k : Fin 1536, x0 (ix2 r k) * weight x1 x2 1 j k)

theorem productStore_eq (x0 : Vec Ideal S1920x1536 .bf16) (x1 : Vec Ideal S2x256x768 .i8) (x2 : Vec Ideal S2x256x48 .i8)
    (v : View sig .tc .vmem S2x256x1536 .bf16) (q : Fin 4) (x : (productStore x0 x1 x2 v q).1.shape.Idx) :
    (productStore x0 x1 x2 v q).2 x
      = (fun y : S1920x256.Idx => blockValue x0 x1 x2 (y 0) (y 1)) ((productStore x0 x1 x2 v q).1.emb x) := by
  obtain ⟨r, l, rfl⟩ : ∃ (r : Fin 480) (l : Fin 256), x = ix2 r l := ⟨x 0, x 1, eq_ix2 x⟩
  have e : (productStore x0 x1 x2 v q).1.emb (ix2 r l) = ix2 ⟨480 * q.val + r.val, by omega⟩ l := by
    funext a
    apply Fin.ext
    refine (Rect.idx_unit_val (s := S1920x256) ![480 * q.val, 0] S480x256.size (product_inb q) (ix2 r l) a).trans ?_
    fin_cases a <;> simp
  rw [e]
  refine (product_apply _ _ _ r l).trans ?_
  have h0 (inb) (k : Fin 1536) : View.ld x0 (Rect.unit ![480 * q.val, 0] S480x1536.size inb) (ix2 r k)
      = x0 (ix2 ⟨480 * q.val + r.val, by omega⟩ k) :=
    View.ld_unit_apply_of _ _ _ _ _ _ fun a => by fin_cases a <;> simp
  have h1 (h : Fin 2) (inb) (k : Fin 1536) : v.readCov (stores x1 x2) (Rect.unit (s := S2x256x1536) ![h.val, 0, 0] S1x256x1536.size inb).toLoadRect (ix3 0 l k)
      = weight x1 x2 h l k := by
    rw [View.readCov_eq_canon', canon_stores]
    exact View.ld_unit_apply_of (weights x1 x2) ![h.val, 0, 0] S1x256x1536.size inb (ix3 0 l k) (ix3 h l k)
      fun a => by fin_cases a <;> simp
  have hsum (h : Fin 2) (inb inb') :
      (∑ k : Fin 1536, View.ld x0 (Rect.unit ![480 * q.val, 0] S480x1536.size inb) (ix2 r k)
        * v.readCov (stores x1 x2) (Rect.unit (s := S2x256x1536) ![h.val, 0, 0] S1x256x1536.size inb').toLoadRect (ix3 0 l k) : EReal)
      = ∑ k : Fin 1536, x0 (ix2 ⟨480 * q.val + r.val, by omega⟩ k) * weight x1 x2 h l k :=
    Finset.sum_congr rfl fun k _ => congrArg₂ (fun a b : EReal => a * b) (h0 inb k) (h1 h inb' k)
  exact congrArg₂ (fun a b : EReal => a * Ideal.logistic a * b) (hsum 0 _ _) (hsum 1 _ _)

/-- What the body leaves in the output's block at one grid point, read at an index. -/
theorem out_apply (c : Dev nD) (i : grid0.Coords) (arg1 : Memref sig .tc .vmem S1920x1536 .bf16) (harg1 : arg1.IsWhole) (arg2 : Memref sig .tc .vmem S2x256x768 .i8) (harg2 : arg2.IsWhole) (arg3 : Memref sig .tc .vmem S2x256x48 .i8) (harg3 : arg3.IsWhole) (arg4 : Memref sig .tc .vmem S1920x256 .bf16) (harg4 : arg4.IsWhole) (arg5 : Memref sig .tc .vmem S2x256x1536 .bf16) (harg5 : arg5.IsWhole)
    (x0 : Vec Ideal S1920x1536 .bf16) (x1 : Vec Ideal S2x256x768 .i8) (x2 : Vec Ideal S2x256x48 .i8) (r : Fin 1920) (j : Fin 256) :
    out0_A_3 (F := Ideal) c i arg1 harg1 arg2 harg2 arg3 harg3 arg4 harg4 arg5 harg5 x0 x1 x2 (ix2 r j) = blockValue x0 x1 x2 r j := by
  unfold out0_A_3
  rw [View.read_writes_junk_eq_canon]
  unfold kernelRun0_A
  dsimp only
  sl_unfold_words
  simp only [View.readAt_eq_ld, Memref.IsWhole.read_unread]
  show View.canon [productStore x0 x1 x2 arg5.view 3, productStore x0 x1 x2 arg5.view 2, productStore x0 x1 x2 arg5.view 1,
    productStore x0 x1 x2 arg5.view 0] (ix2 r j) = _
  refine View.canon_apply_of_pieces (Val := Elt Ideal) (e := .bf16) (fun y : S1920x256.Idx => blockValue x0 x1 x2 (y 0) (y 1)) _ ?_ (ix2 r j) ?_
  · simp only [List.forall_mem_cons]
    exact ⟨productStore_eq _ _ _ _ _, productStore_eq _ _ _ _ _, productStore_eq _ _ _ _ _, productStore_eq _ _ _ _ _, fun _ h => nomatch h⟩
  · exact View.cover_of_tiledL [productStore x0 x1 x2 arg5.view 3, productStore x0 x1 x2 arg5.view 2, productStore x0 x1 x2 arg5.view 1,
      productStore x0 x1 x2 arg5.view 0] S480x256.size (by sl_kernel_rfl) (ix2 r j)

end Cert.Hand

end
-- ==== Proof.Array.lean ====
/- What the output array holds after the kernel's run: grid point `t` writes columns `256 t` to `256 t + 255`, so each
   element of the array is one element of one point's block, a function of the three arguments. -/
module

public import proofs.«01_k».proof.Proof.Block

@[expose] public section

set_option maxRecDepth 16384

noncomputable section

namespace Cert.Hand

open Idealize.ShloMosaic Idealize.ShloMosaic.TcCoe Idealize.SL.Sem Cert.KernelIdeal Cert.KernelIdeal.Gen

variable (m : (ℓ : Loc nD τ sig) → Buf (Elt Ideal) ℓ)

/-- The activations as the kernel receives them: row `s` of batch entry `b` is row `640 b + s`, the even columns first and
    the odd columns after them. -/
theorem V_activations (c : Dev nD) (b : Fin 3) (s : Fin 640) (p : Fin 2) (j : Fin 768) :
    V m c main_v2 (ix2 ⟨640 * b.val + s.val, by omega⟩ ⟨768 * p.val + j.val, by omega⟩)
      = m ((c : Thread nD τ).loc main_arg0) (ix3 b s ⟨j.val * 2 + p.val, by omega⟩) := by
  unfold_abbrev_sides
  after_results
  pointwise
  have hb : (⟨(640 * b.val + s.val) / 640, by omega⟩ : Fin 3) = b := Fin.ext (by show (640 * b.val + s.val) / 640 = b.val; omega)
  have hs : (⟨(640 * b.val + s.val) % 640, by omega⟩ : Fin 640) = s := Fin.ext (by show (640 * b.val + s.val) % 640 = s.val; omega)
  rw [hb, hs]

theorem index0 : ∀ t : Fin cfg0.N, win0_0.index t = ![0, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, t.val] := (by decide +kernel : ∀ t : Fin grid0.N, _)

/-- A point's block of the activations is all of them. -/
theorem block0 (c : Dev nD) (t : Fin cfg0.N) (r : Fin 1920) (k : Fin 1536) :
    iblk m c 0 t (ix2 r k) = V m c main_v2 (ix2 r k) := by
  have h := index0 t
  show V m c main_v2 (((cfg0.win 0).blk t).view.emb (ix2 r k)) = _
  congr 1
  funext a
  apply Fin.ext
  blk_simp [h]
  fin_cases a <;> simp

/-- A point's block of the codes is rows `256 t` to `256 t + 255` of both matrices. -/
theorem block1 (c : Dev nD) (t : Fin cfg0.N) (h : Fin 2) (n : Fin 256) (k : Fin 768) (q : Fin 8960) (hq : q.val = 256 * t.val + n.val) :
    iblk m c 1 t (ix3 h n k) = m ((c : Thread nD τ).loc main_arg1) (ix3 h q k) := by
  have e := index1 t
  rw [← V_main_arg1 m c]
  show V m c main_arg1 (((cfg0.win 1).blk t).view.emb (ix3 h n k)) = _
  congr 1
  funext a
  apply Fin.ext
  blk_simp [e]
  fin_cases a <;> simp [hq] <;> omega

/-- A point's block of the scale codes is rows `256 t` to `256 t + 255` of both matrices. -/
theorem block2 (c : Dev nD) (t : Fin cfg0.N) (h : Fin 2) (n : Fin 256) (k : Fin 48) (q : Fin 8960) (hq : q.val = 256 * t.val + n.val) :
    iblk m c 2 t (ix3 h n k) = m ((c : Thread nD τ).loc main_arg2) (ix3 h q k) := by
  have e := index2 t
  rw [← V_main_arg2 m c]
  show V m c main_arg2 (((cfg0.win 2).blk t).view.emb (ix3 h n k)) = _
  congr 1
  funext a
  apply Fin.ext
  blk_simp [e]
  fin_cases a <;> simp [hq] <;> omega

/-- The output array after the run, at a row and a column: the value of the block that holds the column. -/
theorem array_apply (c : Dev nD) (r : Fin 1920) (n : Fin 8960) :
    (dats m 0 c).arrAt 3 cfg0.N (ix2 r n)
      = blockValue (iblk m c 0 ⟨n.val / 256, by have := n.isLt; show _ < 35; omega⟩)
          (iblk m c 1 ⟨n.val / 256, by have := n.isLt; show _ < 35; omega⟩)
          (iblk m c 2 ⟨n.val / 256, by have := n.isLt; show _ < 35; omega⟩) r ⟨n.val % 256, by omega⟩ := by
  generalize ht : (⟨n.val / 256, by have := n.isLt; show _ < 35; omega⟩ : Fin cfg0.N) = t
  have htv : t.val = n.val / 256 := by rw [← ht]
  have hb := congrFun (Value.blocks3 m c t (flush0_3 t)) (ix2 r ⟨n.val % 256, by omega⟩)
  rw [Value.flushed3_A] at hb
  have he : ((cfg0.win 3).blk t).view.emb (ix2 r ⟨n.val % 256, by omega⟩) = ix2 r n := by
    have e := index3 t
    funext a
    apply Fin.ext
    blk_simp [e]
    fin_cases a <;> simp <;> omega
  have hl : (dats m 0 c).arrAt 3 cfg0.N (((cfg0.win 3).blk t).view.emb (ix2 r ⟨n.val % 256, by omega⟩)) = _ := hb
  rw [he] at hl
  refine hl.trans ?_
  exact out_apply c (grid0.coords t) _ _ _ _ _ _ _ _ _ _ (iblk m c 0 t) (iblk m c 1 t) (iblk m c 2 t) r ⟨n.val % 256, by omega⟩

end Cert.Hand

end
-- ==== Proof.ReferenceWords.lean ====
/- The reference's decoding of one element: the choice tree that reads an e2m1 field, and the power of two of a scale code. -/
module

public import proofs.«01_k».proof.Proof.Words
public import proofs.«01_k».proof.Proof.Gen.ReferenceIdeal.Read
public import Idealize.ShloMosaic.Lib.Pointwise

@[expose] public section

noncomputable section

namespace Cert.Hand

open Idealize.ShloMosaic Cert.ReferenceIdeal Cert.ReferenceIdeal.Read

/-- Whether a field has the bit `k`. -/
def hasBit (c k : BitVec 32) : BitVec 1 := IntOp.cmpi .ne (IntOp.andi c k) 0#32

/-- The choice tree over the bits 4, 2 and 1 of a field: its magnitude. -/
def magnitude (c : BitVec 32) : EReal :=
  Scalar.select (hasBit c 4#32)
    (Scalar.select (hasBit c 2#32)
      (Scalar.select (hasBit c 1#32) (Ideal.ofBits .bf16 0x40C0#16) (Ideal.ofBits .bf16 0x4080#16))
      (Scalar.select (hasBit c 1#32) (Ideal.ofBits .bf16 0x4040#16) (Ideal.ofBits .bf16 0x4000#16)))
    (Scalar.select (hasBit c 2#32)
      (Scalar.select (hasBit c 1#32) (Ideal.ofBits .bf16 0x3FC0#16) (Ideal.ofBits .bf16 0x3F80#16))
      (Scalar.select (hasBit c 1#32) (Ideal.ofBits .bf16 0x3F00#16) (Ideal.ofBits .bf16 0x0000#16)))

/-- The magnitude with the sign of bit 8. -/
def signed (c : BitVec 32) : EReal := Scalar.select (hasBit c 8#32) (-(magnitude c)) (magnitude c)

/-- The reference's choice tree, at an index. -/
theorem tree_apply (x1 : Vec Ideal S2x8960x768 .i8) (i : S2x8960x2x768.Idx) :
    val_main_v44 (F := Ideal) x1 i = signed (val_main_v19 (F := Ideal) x1 i) := by
  rfl

/-- The choice tree at a field's number is the field's value. -/
theorem signed_eq (f : Fin 16) : signed (BitVec.ofNat 32 f.val) = ((e2m1 f : ℝ) : EReal) := by
  fin_cases f <;>
    simp [signed, magnitude, hasBit, Scalar.select, IntOp.cmpi, IntOp.andi, Ideal.ofBits, Ideal.ieee, e2m1, -EReal.coe_mul] <;> norm_num

/-- The low four bits of a byte, as the reference takes them. -/
theorem low_word (b : BitVec 8) : IntOp.andi (b.setWidth 32) 15#32 = BitVec.ofNat 32 (lowField b).val := by
  revert b; decide +kernel

/-- The high four bits of a byte, as the reference takes them. -/
theorem high_word (b : BitVec 8) : IntOp.shrsi .host (b.setWidth 32) 4#32 = BitVec.ofNat 32 (highField b).val := by
  revert b; decide +kernel

/-- The reference's scale at an index is the value of the scale code. -/
theorem scale_apply (x2 : Vec Ideal S2x8960x48 .i8) (i : S2x8960x48.Idx) : val_main_v11 (F := Ideal) x2 i = e8m0 (x2 i) := by
  show Scalar.select (IntOp.cmpi .sgt (IntOp.subi ((x2 i).setWidth 32) 127#32) 127#32) (Ideal.ofBits .f32 0x7F800000#32)
    (Ideal.pow (Ideal.ofBits .f32 0x40000000#32) (((IntOp.subi ((x2 i).setWidth 32) 127#32).toInt : ℝ) : EReal)) = _
  generalize x2 i = e
  have h1 : IntOp.cmpi .sgt (IntOp.subi (e.setWidth 32) 127#32) 127#32 = if e.toNat = 255 then 1#1 else 0#1 := by
    revert e; decide +kernel
  have h2 : (IntOp.subi (e.setWidth 32) 127#32).toInt = (e.toNat : ℤ) - 127 := by
    revert e; decide +kernel
  have hinf : Ideal.ofBits .f32 0x7F800000#32 = ⊤ := by simp [Ideal.ofBits, Ideal.ieee]
  have htwo : Ideal.ofBits .f32 0x40000000#32 = ((2 : ℝ) : EReal) := by
    simp [Ideal.ofBits, Ideal.ieee, -EReal.coe_mul]; norm_num
  rw [h1, h2, hinf, htwo]
  unfold e8m0 Scalar.select
  by_cases h : e.toNat = 255
  · simp [h]
  · simp only [h, if_false]
    show ((Real.rpow 2 (((e.toNat : ℤ) - 127 : ℤ) : ℝ) : ℝ) : EReal) = _
    congr 1
    exact Real.rpow_intCast 2 _

end Cert.Hand

end
-- ==== Proof.Reference.lean ====
/- What the reference computes, one element of its result at a time. -/
module

public import proofs.«01_k».proof.Proof.ReferenceWords

@[expose] public section

set_option maxRecDepth 16384

noncomputable section

namespace Cert.Hand

open Idealize.ShloMosaic Cert.ReferenceIdeal Cert.ReferenceIdeal.Gen Cert.ReferenceIdeal.Read

/-- Field `p` of a byte: the low one first. -/
def fieldOf (p : Fin 2) (b : BitVec 8) : Fin 16 := if p.val = 0 then lowField b else highField b

/-- The two fields of the bytes, side by side. -/
theorem fields_apply (x1 : Vec Ideal S2x8960x768 .i8) (h : Fin 2) (n : Fin 8960) (p : Fin 2) (j : Fin 768) :
    val_main_v19 (F := Ideal) x1 (ix4 h n p j) = BitVec.ofNat 32 (fieldOf p (x1 (ix3 h n j))).val := by
  have hlow (z : Fin 1) : val_main_v17 (F := Ideal) x1 (ix4 h n z j) = BitVec.ofNat 32 (lowField (x1 (ix3 h n j))).val := by
    rw [val_main_v17_apply, show idx_main_v17 (ix4 h n z j) = ix3 h n j from funext fun a => by fin_cases a <;> rfl, ← low_word]
    rfl
  have hhigh (z : Fin 1) : val_main_v18 (F := Ideal) x1 (ix4 h n z j) = BitVec.ofNat 32 (highField (x1 (ix3 h n j))).val := by
    rw [val_main_v18_apply, show idx_main_v18 (ix4 h n z j) = ix3 h n j from funext fun a => by fin_cases a <;> rfl, ← high_word]
    rfl
  unfold val_main_v19 fieldOf
  generalize val_main_v17 (F := Ideal) x1 = A at *
  generalize val_main_v18 (F := Ideal) x1 = B at *
  pointwise
  fin_cases p <;> simp [hlow, hhigh]

/-- A row's 768 fields stand as 48 groups of 16: the reshape to groups, and the reshape back. -/
theorem grouped_apply (x1 : Vec Ideal S2x8960x768 .i8) (x2 : Vec Ideal S2x8960x48 .i8) (h : Fin 2) (n : Fin 8960) (p : Fin 2) (j : Fin 768) :
    val_main_v49 (F := Ideal) x1 x2 (ix4 h n p j) = val_main_v48 (F := Ideal) x1 x2 (ix5 h n p ⟨j.val / 16, by omega⟩ ⟨j.val % 16, by omega⟩) := by
  unfold val_main_v49
  generalize val_main_v48 (F := Ideal) x1 x2 = A
  refine shapeCast_apply A shapeCasts_S2x8960x2x48x16_S2x8960x2x768 _ _ ?_
  rewrite [Shape.rowMajor_val_five, Shape.rowMajor_val_four]
  show (((h.val * 8960 + n.val) * 2 + p.val) * 48 + j.val / 16) * 16 + j.val % 16 = ((h.val * 8960 + n.val) * 2 + p.val) * 768 + j.val
  omega

theorem groups_apply (x1 : Vec Ideal S2x8960x768 .i8) (h : Fin 2) (n : Fin 8960) (p : Fin 2) (j : Fin 768) :
    val_main_v45 (F := Ideal) x1 (ix5 h n p ⟨j.val / 16, by omega⟩ ⟨j.val % 16, by omega⟩) = val_main_v44 (F := Ideal) x1 (ix4 h n p j) := by
  unfold val_main_v45
  generalize val_main_v44 (F := Ideal) x1 = A
  refine shapeCast_apply A shapeCasts_S2x8960x2x768_S2x8960x2x48x16 _ _ ?_
  rewrite [Shape.rowMajor_val_five, Shape.rowMajor_val_four]
  show ((h.val * 8960 + n.val) * 2 + p.val) * 768 + j.val = (((h.val * 8960 + n.val) * 2 + p.val) * 48 + j.val / 16) * 16 + j.val % 16
  omega

/-- A group's scale. -/
theorem spread_apply (x2 : Vec Ideal S2x8960x48 .i8) (h : Fin 2) (n : Fin 8960) (p : Fin 2) (q : Fin 48) (l : Fin 16) :
    val_main_v47 (F := Ideal) x2 (ix5 h n p q l) = e8m0 (x2 (ix3 h n q)) := by
  rw [val_main_v47_apply, val_main_v46_apply, scale_apply]
  congr 2
  funext a
  fin_cases a <;> rfl

/-- The decoded weight of matrix `h`, row `n`, field `p` of byte `j`: sixteen bytes share a scale. -/
theorem decoded_apply (x1 : Vec Ideal S2x8960x768 .i8) (x2 : Vec Ideal S2x8960x48 .i8) (h : Fin 2) (n : Fin 8960) (p : Fin 2) (j : Fin 768) :
    val_main_v49 (F := Ideal) x1 x2 (ix4 h n p j)
      = ((e2m1 (fieldOf p (x1 (ix3 h n j))) : ℝ) : EReal) * e8m0 (x2 (ix3 h n ⟨j.val / 16, by omega⟩)) := by
  rw [grouped_apply, val_main_v48_apply, groups_apply, tree_apply, fields_apply, signed_eq, spread_apply]
  rfl

/-- The reference's first product (the gate) at an index. -/
theorem gate_apply (x0 : Vec Ideal S3x640x1536 .bf16) (x1 : Vec Ideal S2x8960x768 .i8) (x2 : Vec Ideal S2x8960x48 .i8)
    (b : Fin 3) (s : Fin 640) (n : Fin 8960) :
    val_main_v54 (F := Ideal) x0 x1 x2 (ix3 b s n)
      = ∑ p : Fin 2, ∑ j : Fin 768, x0 (ix3 b s ⟨j.val * 2 + p.val, by omega⟩) * val_main_v49 (F := Ideal) x1 x2 (ix4 0 n p j) := by
  unfold val_main_v54 val_main_v53 val_main_v52 val_main_v51 val_main_v50
  generalize val_main_v49 (F := Ideal) x1 x2 = A
  pointwise

/-- The reference's second product at an index. -/
theorem up_apply (x0 : Vec Ideal S3x640x1536 .bf16) (x1 : Vec Ideal S2x8960x768 .i8) (x2 : Vec Ideal S2x8960x48 .i8)
    (b : Fin 3) (s : Fin 640) (n : Fin 8960) :
    val_main_v57 (F := Ideal) x0 x1 x2 (ix3 b s n)
      = ∑ p : Fin 2, ∑ j : Fin 768, x0 (ix3 b s ⟨j.val * 2 + p.val, by omega⟩) * val_main_v49 (F := Ideal) x1 x2 (ix4 1 n p j) := by
  unfold val_main_v57 val_main_v56 val_main_v55 val_main_v51 val_main_v50
  generalize val_main_v49 (F := Ideal) x1 x2 = A
  pointwise

/-- One product of the reference, written out: activations of batch entry `b`, row `s`, against row `n` of matrix `h`. -/
def product (x0 : Vec Ideal S3x640x1536 .bf16) (x1 : Vec Ideal S2x8960x768 .i8) (x2 : Vec Ideal S2x8960x48 .i8)
    (h : Fin 2) (b : Fin 3) (s : Fin 640) (n : Fin 8960) : EReal :=
  ∑ p : Fin 2, ∑ j : Fin 768, x0 (ix3 b s ⟨j.val * 2 + p.val, by omega⟩)
    * (((e2m1 (fieldOf p (x1 (ix3 h n j))) : ℝ) : EReal) * e8m0 (x2 (ix3 h n ⟨j.val / 16, by omega⟩)))

theorem ofBits_one : Ideal.ofBits .f32 0x3F800000#32 = 1 := by
  simp [Ideal.ofBits, Ideal.ieee, -EReal.coe_mul]; norm_num

/-- The reference's result at row `640 b + s` and column `n`: the gate times its logistic times the other product. -/
theorem result_apply (x0 : Vec Ideal S3x640x1536 .bf16) (x1 : Vec Ideal S2x8960x768 .i8) (x2 : Vec Ideal S2x8960x48 .i8)
    (b : Fin 3) (s : Fin 640) (n : Fin 8960) :
    val_main_v67 (F := Ideal) x0 x1 x2 (ix2 ⟨640 * b.val + s.val, by omega⟩ n)
      = product x0 x1 x2 0 b s n * Ideal.logistic (product x0 x1 x2 0 b s n) * product x0 x1 x2 1 b s n := by
  have hg : val_main_v54 (F := Ideal) x0 x1 x2 (ix3 b s n) = product x0 x1 x2 0 b s n := by
    rw [gate_apply]; simp only [decoded_apply]; rfl
  have hu : val_main_v57 (F := Ideal) x0 x1 x2 (ix3 b s n) = product x0 x1 x2 1 b s n := by
    rw [up_apply]; simp only [decoded_apply]; rfl
  have hr : val_main_v67 (F := Ideal) x0 x1 x2 (ix2 ⟨640 * b.val + s.val, by omega⟩ n) = val_main_v66 (F := Ideal) x0 x1 x2 (ix3 b s n) := by
    unfold val_main_v67
    generalize val_main_v66 (F := Ideal) x0 x1 x2 = A
    pointwise
  have h1 : val_main_v66 (F := Ideal) x0 x1 x2 (ix3 b s n)
      = val_main_v54 (F := Ideal) x0 x1 x2 (ix3 b s n)
        * Ideal.div (Ideal.ofBits .f32 0x3F800000#32) (Ideal.ofBits .f32 0x3F800000#32 + Ideal.exp (-(val_main_v54 (F := Ideal) x0 x1 x2 (ix3 b s n))))
        * val_main_v57 (F := Ideal) x0 x1 x2 (ix3 b s n) := rfl
  rw [hr, h1, hg, hu, ofBits_one]
  rfl

end Cert.Hand

end
-- ==== Proof.Equation.lean ====
/- The kernel's value and the reference's are equal: the kernel's sum over 1536 positions is the reference's sum over the two
   fields of 768 bytes, and its scale words denote the reference's powers of two wherever no scale code is 0. -/
module

public import proofs.«01_k».proof.Proof.Array
public import proofs.«01_k».proof.Proof.Reference

@[expose] public section

set_option maxRecDepth 16384

noncomputable section

namespace Cert.Hand

open Idealize.ShloMosaic Idealize.ShloMosaic.TcCoe Idealize.SL.Sem Cert.KernelIdeal Cert.KernelIdeal.Gen

/-- One product of the kernel is the reference's: for blocks that hold the arguments' elements, the sum over the
    concatenated fields is the sum over fields and bytes. -/
theorem sum_eq_product (x0 : Vec Ideal Cert.ReferenceIdeal.S3x640x1536 .bf16) (x1 : Vec Ideal S2x8960x768 .i8) (x2 : Vec Ideal S2x8960x48 .i8)
    (hx2 : ∀ i, (x2 i).toNat ≠ 0)
    (X0 : Vec Ideal S1920x1536 .bf16) (X1 : Vec Ideal S2x256x768 .i8) (X2 : Vec Ideal S2x256x48 .i8)
    (h : Fin 2) (b : Fin 3) (s : Fin 640) (n : Fin 8960) (l : Fin 256)
    (h0 : ∀ (p : Fin 2) (j : Fin 768), X0 (ix2 ⟨640 * b.val + s.val, by omega⟩ ⟨768 * p.val + j.val, by omega⟩)
      = x0 (ix3 b s ⟨j.val * 2 + p.val, by omega⟩))
    (h1 : ∀ j : Fin 768, X1 (ix3 h l j) = x1 (ix3 h n j))
    (h2 : ∀ q : Fin 48, X2 (ix3 h l q) = x2 (ix3 h n q)) :
    ∑ k : Fin 1536, X0 (ix2 ⟨640 * b.val + s.val, by omega⟩ k) * weight X1 X2 h l k = product x0 x1 x2 h b s n := by
  rw [Fin.sum_univ_two_halves 768 768 rfl]
  unfold product
  rw [Fin.sum_univ_two]
  refine congrArg₂ (fun a b : EReal => a + b) (Finset.sum_congr rfl fun j _ => ?_) (Finset.sum_congr rfl fun j _ => ?_)
  · have e : (⟨j.val, by omega⟩ : Fin 1536) = ⟨768 * (0 : Fin 2).val + j.val, by have := j.isLt; simp; omega⟩ := Fin.ext (by simp)
    refine congrArg₂ (fun a b : EReal => a * b) ?_ ?_
    · rw [← h0 0 j]
      exact congrArg X0 (congrArg (ix2 _) e)
    · rw [weight, dif_pos j.isLt, h1, h2, ofBits_scaleWord _ (hx2 _)]
      rfl
  · refine congrArg₂ (fun a b : EReal => a * b) ?_ ?_
    · rw [← h0 1 j]
      rfl
    · have e1 : (⟨768 + j.val - 768, by omega⟩ : Fin 768) = j := Fin.ext (by show 768 + j.val - 768 = j.val; omega)
      have e2 : (⟨(768 + j.val - 768) / 16, by omega⟩ : Fin 48) = ⟨j.val / 16, by omega⟩ :=
        Fin.ext (by show (768 + j.val - 768) / 16 = j.val / 16; omega)
      rw [weight, dif_neg (show ¬ 768 + j.val < 768 by omega)]
      simp only [e1, e2]
      rw [h1, h2, ofBits_scaleWord _ (hx2 _)]
      rfl

/-- The kernel's output array is the reference's result of the same arguments. -/
theorem array_eq_result (m : (ℓ : Loc nD τ sig) → Buf (Elt Ideal) ℓ) (c : Dev nD)
    (hx2 : ∀ i, ((m ((c : Thread nD τ).loc main_arg2) : Vec Ideal S2x8960x48 .i8) i).toNat ≠ 0) :
    ((dats m 0 c).arrAt 3 cfg0.N : Vec Ideal S1920x8960 .bf16)
      = Cert.ReferenceIdeal.Read.val_main_v67 (F := Ideal) (m ((c : Thread nD τ).loc main_arg0)) (m ((c : Thread nD τ).loc main_arg1))
          (m ((c : Thread nD τ).loc main_arg2)) := by
  funext y
  obtain ⟨b, s, n, rfl⟩ : ∃ (b : Fin 3) (s : Fin 640) (n : Fin 8960), y = ix2 ⟨640 * b.val + s.val, by omega⟩ n := by
    have hr : (y 0).val < 1920 := (y 0).isLt
    refine ⟨⟨(y 0).val / 640, by omega⟩, ⟨(y 0).val % 640, by omega⟩, y 1, (eq_ix2 y).trans ?_⟩
    exact congrArg (fun r => ix2 r (y 1)) (Fin.ext (by show (y 0).val = 640 * ((y 0).val / 640) + (y 0).val % 640; omega))
  have hn : n.val = 256 * (n.val / 256) + n.val % 256 := by omega
  have key (h : Fin 2) := sum_eq_product (m ((c : Thread nD τ).loc main_arg0)) (m ((c : Thread nD τ).loc main_arg1))
    (m ((c : Thread nD τ).loc main_arg2)) hx2 _ _ _ h b s n ⟨n.val % 256, by omega⟩
    (fun p j => (block0 m c ⟨n.val / 256, by have := n.isLt; show _ < 35; omega⟩ _ _).trans (V_activations m c b s p j))
    (fun j => block1 m c ⟨n.val / 256, by have := n.isLt; show _ < 35; omega⟩ h _ j n hn)
    (fun q => block2 m c ⟨n.val / 256, by have := n.isLt; show _ < 35; omega⟩ h _ q n hn)
  refine (array_apply m c _ n).trans (Eq.trans ?_ (result_apply _ _ _ b s n).symm)
  exact congrArg₂ (fun g u : EReal => g * Ideal.logistic g * u) (key 0) (key 1)

end Cert.Hand

end
-- ==== Proof.lean ====
/- The claims of `Cert.Claim` (proof/Defs.lean). The frames and the two programs' runs are generated (Proof/Gen/); the
   kernel's value is `Cert.Hand.array_eq_result` (Proof/Equation.lean). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation

@[expose] public section

noncomputable section

namespace Cert.Proof

open Idealize.ShloMosaic Idealize.SL.Sem

/-- What the precondition's printed function asks of its operations. -/
instance preFacts : Cert.Pre_scales_nonzero.Facts where
  natLt_8_32 := by decide
  bcast_S_S2x8960x48 := by decide

/-- The precondition says of every scale code that it is not 0. -/
theorem scale_ne_zero (x0 : FVec Ideal Cert.Pre_scales_nonzero.S3x640x1536 .bf16) (x1 : IVec Cert.Pre_scales_nonzero.S2x8960x768 8)
    (x2 : IVec Cert.Pre_scales_nonzero.S2x8960x48 8) (h : Cert.Pre_scales_nonzero.fn (F := Ideal) x0 x1 x2 = fun _ => 1#1)
    (i : Cert.Pre_scales_nonzero.S2x8960x48.Idx) : (x2 i).toNat ≠ 0 := by
  have hi : IntOp.cmpi .sgt ((x2 i).setWidth 32) 0#32 = 1#1 := congrFun h i
  have hall : ∀ e : BitVec 8, IntOp.cmpi .sgt (e.setWidth 32) 0#32 = 1#1 → e.toNat ≠ 0 := by decide +kernel
  exact hall _ hi

/-- The reference runs, leaves its arguments as they were and every semaphore counter at zero (it declares none). -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The idealized kernel and the idealized reference end with equal results. -/
theorem equal : Cert.algebraic_KernelIdeal_ReferenceIdeal_pre_scales_nonzero (hKernelIdeal := Cert.KernelIdeal.Gen.facts)
    (hReferenceIdeal := Cert.ReferenceIdeal.Gen.facts) (hPre_scales_nonzero := preFacts) := by
  intro m ρ m' ρ' hpre hargs
  refine ⟨fun c => (Cert.KernelIdeal.Gen.dats m 0 c).arrAt 3 Cert.KernelIdeal.cfg0.N, Cert.KernelIdeal.Value.run_blocks m ρ, ?_⟩
  refine (θ_run Cert.ReferenceIdeal.defs _ _).mono (fun r h c => ⟨(h c).1.trans ?_, (h c).2⟩) (Cert.ReferenceIdeal.Value.run m' ρ')
  obtain ⟨h0, h1, h2⟩ := hargs c
  rw [Cert.ReferenceIdeal.Read.val_main_v67_eq, h0, h1, h2]
  exact (Cert.Hand.array_eq_result m c (scale_ne_zero _ _ _ (hpre c))).symm

theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    equal⟩

end Cert.Proof

end
